-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_max [hPre_finite_row_max : Cert.Pre_finite_row_max.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_max.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_max [hPre_finite_row_max : Cert.Pre_finite_row_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_max.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_row_max [hKernelIdeal : Cert.KernelIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_row_max [hReferenceIdeal : Cert.ReferenceIdeal.Facts] [hPre_finite_row_max : Cert.Pre_finite_row_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_row_max [hKernelIdeal : Cert.KernelIdeal.Facts] [hReferenceIdeal : Cert.ReferenceIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_row_max : Cert.Pre_finite_row_max.Facts),
    quiescent_Kernel (hKernel := hKernel)
    ∧ quiescent_KernelIdeal (hKernelIdeal := hKernelIdeal)
    ∧ quiescent_KernelIdeal_pre_finite_row_max (hKernelIdeal := hKernelIdeal) (hPre_finite_row_max := hPre_finite_row_max)
    ∧ quiescent_ReferenceIdeal (hReferenceIdeal := hReferenceIdeal)
    ∧ quiescent_ReferenceIdeal_pre_finite_row_max (hReferenceIdeal := hReferenceIdeal) (hPre_finite_row_max := hPre_finite_row_max)
    ∧ preserves_Kernel_KernelIdeal
    ∧ algebraic_KernelIdeal_ReferenceIdeal_pre_finite_row_max (hKernelIdeal := hKernelIdeal) (hReferenceIdeal := hReferenceIdeal) (hPre_finite_row_max := hPre_finite_row_max)
-- ==== Pre_finite_row_max.lean ====
abbrev S8x4096 : Shape := ⟨2, ![8, 4096]⟩
abbrev S8192x4096 : Shape := ⟨2, ![8192, 4096]⟩
abbrev S_ : Shape := ⟨0, ![]⟩
abbrev S8192 : Shape := ⟨1, ![8192]⟩

class Facts : Prop where
  reducesTo_S8192x4096_S8192_d1 : S8192x4096.ReducesTo [1] S8192
  h_S_ : 0 < S_.numel
  bcast_S_S8192 : S_.BroadcastsInDim S8192 (![] : Fin 0 → Fin S8192.rank)

variable [Facts]

def fn {F : FTy → Type} [FloatOps F] (main_arg0 : FVec F S8x4096 .f32) (main_arg1 : FVec F S8192x4096 .f32) : IVec S8192 1 :=
  let main_cst : FVec F S_ .f32 := constant S_ .f32 0xFF800000#32
  let main_v0 : FVec F S8192 .f32 := (fun x v => Host.reduce FloatOps.maximumf x v reducesTo_S8192x4096_S8192_d1 h_S_) main_arg1 main_cst
  let main_v1 : FVec F S8192 .f32 := Host.absf main_v0
  let main_cst_0 : FVec F S_ .f32 := constant S_ .f32 0x7F800000#32
  let main_v2 : FVec F S8192 .f32 := broadcastInDim S8192 ![] bcast_S_S8192 main_cst_0
  let main_v3 : IVec S8192 1 := cmpf .olt main_v1 main_v2
  main_v3
-- ==== Kernel.lean ====
abbrev S8x4096 : Shape := ⟨2, ![8, 4096]⟩
abbrev S8192x4096 : Shape := ⟨2, ![8192, 4096]⟩
abbrev S8x8192 : Shape := ⟨2, ![8, 8192]⟩
abbrev S512x4096 : Shape := ⟨2, ![512, 4096]⟩
abbrev S8x512 : Shape := ⟨2, ![8, 512]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x4096, .f32⟩
  | .hbm, ⟨1, _⟩ => ⟨S8192x4096, .f32⟩
  | .hbm, ⟨2, _⟩ => ⟨S8x8192, .f32⟩
  | .local _ .vmem, ⟨0, _⟩ => ⟨S8x4096, .f32⟩
  | .local _ .vmem, ⟨1, _⟩ => ⟨S512x4096, .f32⟩
  | .local _ .vmem, ⟨2, _⟩ => ⟨S512x4096, .f32⟩
  | .local _ .vmem, ⟨3, _⟩ => ⟨S8x512, .f32⟩
  | .local _ .vmem, ⟨4, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x4096 : Shape := ⟨2, ![8, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096x8192 : Shape := ⟨2, ![4096, 8192]⟩
abbrev S8x8192 : Shape := ⟨2, ![8, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8192x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S4096x8192, .f32⟩
  | .hbm, ⟨22, _⟩ => ⟨S8x8192, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.SoftmaxRow.lean ====
/-
  The equation of the two programs on ONE row of `W` and one row of `x`, over the extended reals.
  The kernel scales the shifted logits by 1000, sums the products of `x` with the unnormalised exponentials and divides
  the sum by the normaliser once; the reference divides the logits by the temperature 1/1000, takes their softmax and
  sums the products of `x` with the weights. The two agree when the row's maximum `M` is finite: the exponentials then
  sum to a positive real `Z`, and multiplication by the real `1/Z` distributes over every sum of extended reals, so
  nothing is asked of `x`.
-/
module

public import Idealize.ShloMosaic.PureOps.Ideal.Laws
public import Mathlib.Data.Finset.Fold
public import Mathlib.Data.Finset.Max

@[expose] public section

noncomputable section

namespace Cert.SoftmaxRow

open Idealize.ShloMosaic
open scoped BigOperators

variable {n : Nat}

/-- The greatest entry of a row, by a fold from −∞. -/
abbrev rowMax (w : Fin n → EReal) : EReal := Finset.univ.fold max ⊥ w

/-- The fold of `max` from −∞ is the supremum of the row. -/
theorem rowMax_eq_sup (w : Fin n → EReal) : rowMax w = Finset.univ.sup w := rfl

/-- Every entry is at most the row's maximum. -/
theorem le_rowMax (w : Fin n → EReal) (k : Fin n) : w k ≤ rowMax w := by
  rw [rowMax_eq_sup]; exact Finset.le_sup (Finset.mem_univ k)

/-- A maximum above −∞ is one of the entries. -/
theorem exists_eq_rowMax (w : Fin n → EReal) (h : rowMax w ≠ ⊥) : ∃ k, w k = rowMax w := by
  have hne : (Finset.univ : Finset (Fin n)).Nonempty := by
    rw [Finset.nonempty_iff_ne_empty]; intro he; exact h (by rw [rowMax_eq_sup, he, Finset.sup_empty])
  obtain ⟨k, -, hk⟩ := Finset.exists_mem_eq_sup _ hne w
  exact ⟨k, by rw [rowMax_eq_sup, hk]⟩

/-- A positive real factor passes through the maximum. -/
theorem rowMax_mul (w : Fin n → EReal) {a : ℝ} (ha : 0 < a) : rowMax (fun k => w k * (a : EReal)) = rowMax w * (a : EReal) := by
  have hmono : Monotone fun y : EReal => y * (a : EReal) := fun y z h => mul_le_mul_of_nonneg_right h (by exact_mod_cast ha.le)
  rw [rowMax_eq_sup, rowMax_eq_sup]
  exact (Finset.comp_sup_eq_sup_comp (fun y : EReal => y * (a : EReal)) (fun y z => hmono.map_sup y z)
    (EReal.bot_mul_coe_of_pos ha)).symm

/-- A positive real factor distributes over a difference of extended reals, whatever they are. -/
theorem sub_mul_coe (y z : EReal) {a : ℝ} (ha : 0 < a) : (y - z) * (a : EReal) = y * (a : EReal) - z * (a : EReal) := by
  rw [sub_eq_add_neg, sub_eq_add_neg, EReal.right_distrib_of_nonneg_of_ne_top (by exact_mod_cast ha.le) (EReal.coe_ne_top a),
    EReal.neg_mul]

/-- A non-negative real factor distributes over a finite sum of extended reals, whatever they are. -/
theorem sum_mul_coe (f : Fin n → EReal) {a : ℝ} (ha : 0 ≤ a) : (∑ k, f k) * (a : EReal) = ∑ k, f k * (a : EReal) := by
  induction (Finset.univ : Finset (Fin n)) using Finset.induction_on with
  | empty => simp
  | insert k s hk ih =>
    rw [Finset.sum_insert hk, Finset.sum_insert hk,
      EReal.right_distrib_of_nonneg_of_ne_top (by exact_mod_cast ha) (EReal.coe_ne_top a), ih]

/-- The unnormalised weight of entry `k`: `exp (1000 (w k − M))`. -/
def weight (w : Fin n → EReal) (k : Fin n) : EReal := Ideal.exp ((w k - rowMax w) * ((1000 : ℝ) : EReal))

/-- Where the row's maximum is finite each unnormalised weight is a non-negative real. -/
theorem weight_real (w : Fin n → EReal) {M : ℝ} (hM : rowMax w = (M : EReal)) (k : Fin n) :
    ∃ r : ℝ, 0 ≤ r ∧ weight w k = (r : EReal) := by
  have hle : w k ≤ (M : EReal) := hM ▸ le_rowMax w k
  unfold weight
  rw [hM]
  induction hw : w k with
  | bot => exact ⟨0, le_rfl, by rw [EReal.bot_sub, EReal.bot_mul_coe_of_pos (by norm_num)]; simp⟩
  | top => rw [hw] at hle; exact absurd hle (not_le.mpr (EReal.coe_lt_top M))
  | coe r =>
    exact ⟨Real.exp ((r - M) * 1000), (Real.exp_pos _).le, by rw [← EReal.coe_sub, ← EReal.coe_mul, Ideal.exp_coe]⟩

/-- So the normaliser is a positive real: the entry that attains the maximum has weight 1. -/
theorem sum_weight_real (w : Fin n → EReal) {M : ℝ} (hM : rowMax w = (M : EReal)) :
    ∃ Z : ℝ, 0 < Z ∧ ∑ k, weight w k = (Z : EReal) := by
  choose r hr hw using weight_real w hM
  obtain ⟨k, hk⟩ := exists_eq_rowMax w (by rw [hM]; exact EReal.coe_ne_bot M)
  refine ⟨∑ k, r k, Finset.sum_pos' (fun i _ => hr i) ⟨k, Finset.mem_univ k, ?_⟩, ?_⟩
  · have h1 : weight w k = 1 := by
      unfold weight
      rw [hk, hM, ← EReal.coe_sub, sub_self, ← EReal.coe_mul, zero_mul, Ideal.exp_coe, Real.exp_zero, EReal.coe_one]
    rw [hw k] at h1
    have : r k = 1 := by exact_mod_cast h1
    rw [this]; exact one_pos
  · rw [Finset.sum_congr rfl fun i _ => hw i]
    exact (map_sum (⟨⟨Real.toEReal, EReal.coe_zero⟩, EReal.coe_add⟩ : ℝ →+ EReal) r Finset.univ).symm

/-- DIVIDING ONCE IS DIVIDING EACH TERM: for a row of finite maximum, `(∑ x·e) / Z = ∑ x·(e / Z)`. -/
theorem div_sum (x w : Fin n → EReal) {M : ℝ} (hM : rowMax w = (M : EReal)) :
    Ideal.div (∑ k, x k * weight w k) (∑ k, weight w k) = ∑ k, x k * Ideal.div (weight w k) (∑ k, weight w k) := by
  obtain ⟨Z, hZ, hsum⟩ := sum_weight_real w hM
  rw [hsum, Ideal.div_coe hZ.ne', sum_mul_coe _ (by positivity)]
  exact Finset.sum_congr rfl fun k _ => by rw [Ideal.div_coe hZ.ne', mul_assoc]

/-- The quotient 1/1000 of two exact constants is the real 1/1000. -/
theorem tau_eq : Ideal.div (1 : EReal) ((1000 : ℝ) : EReal) = (((1 : ℝ) / 1000 : ℝ) : EReal) := by
  rw [Ideal.div_coe (by norm_num), one_mul]

/-- Dividing by the temperature is multiplying by 1000. -/
theorem div_tau (y : EReal) : Ideal.div y (Ideal.div (1 : EReal) ((1000 : ℝ) : EReal)) = y * ((1000 : ℝ) : EReal) := by
  rw [tau_eq, Ideal.div_coe (by norm_num)]; norm_num

/-- The reference's exponential of a logit shifted by the greatest logit is the kernel's of the shifted entry, scaled. -/
theorem exp_logit (w : Fin n → EReal) (k : Fin n) :
    Ideal.exp (Ideal.div (w k) (Ideal.div (1 : EReal) ((1000 : ℝ) : EReal))
        - max ⊥ (rowMax fun k => Ideal.div (w k) (Ideal.div (1 : EReal) ((1000 : ℝ) : EReal)))) = weight w k := by
  simp only [div_tau]
  rw [rowMax_mul w (by norm_num : (0 : ℝ) < 1000), max_eq_right bot_le, ← sub_mul_coe _ _ (by norm_num : (0 : ℝ) < 1000)]
  rfl

/-- The pattern of 1.0 denotes 1. -/
theorem ofBits_one : Ideal.ofBits .f32 0x3F800000#32 = 1 := by
  simp [Ideal.ofBits, Ideal.ieee]
  norm_num
  rw [← EReal.coe_mul]
  norm_num

/-- The pattern of 1000.0 denotes 1000. -/
theorem ofBits_thousand : Ideal.ofBits .f32 0x447A0000#32 = ((1000 : ℝ) : EReal) := by
  simp [Ideal.ofBits, Ideal.ieee]
  norm_num
  rw [← EReal.coe_mul]
  norm_num

/-- The pattern of −∞ denotes −∞. -/
theorem ofBits_negInf : Ideal.ofBits .f32 0xFF800000#32 = ⊥ := by
  simp [Ideal.ofBits, Ideal.ieee]

/-- The pattern of +∞ denotes +∞. -/
theorem ofBits_posInf : Ideal.ofBits .f32 0x7F800000#32 = ⊤ := by
  simp [Ideal.ofBits, Ideal.ieee]

/-- A maximum whose absolute value is below +∞ is a real. -/
theorem real_of_abs_lt_top {y : EReal} (h : max y (-y) < ⊤) : ∃ M : ℝ, y = (M : EReal) := by
  induction y with
  | bot => simp at h
  | top => simp at h
  | coe r => exact ⟨r, rfl⟩

end Cert.SoftmaxRow

end
-- ==== Proof.Reference.lean ====
/-
  What the reference computes, read at one element of its result: the stages of its softmax (the logits `W / tau`, their
  row maximum, the shifted exponentials, their row sum, the weights), each as a function of whole arrays and read at an
  index, then the product with `x`.
-/
module

public import proofs.«01_k».proof.Proof.SoftmaxRow
public import proofs.«01_k».proof.Proof.Gen.ReferenceIdeal.Run
public import Idealize.ShloMosaic.Lib.Pipeline.ValueKit

@[expose] public section

set_option maxRecDepth 16384

noncomputable section

open Idealize.ShloMosaic Idealize.SL.Sem

namespace Cert.ReferenceIdeal.SoftmaxValue

open Cert.ReferenceIdeal Cert.ReferenceIdeal.Gen

/-- The reference's temperature, the quotient of the constants 1 and 1000. -/
abbrev tau : FVec Ideal S_ .f32 := Host.divf (constant S_ .f32 0x3F800000#32) (constant S_ .f32 0x447A0000#32)

/-- The logits: the weight matrix divided by the temperature. -/
def logits (w : FVec Ideal S8192x4096 .f32) : FVec Ideal S8192x4096 .f32 :=
  Host.divf w (broadcastInDim S8192x4096 ![] bcast_S_S8192x4096 tau)

/-- The greatest entry of each row, from −∞. -/
def rowMaxima (l : FVec Ideal S8192x4096 .f32) : FVec Ideal S8192 .f32 :=
  Host.reduce FloatOps.maximumf l (constant S_ .f32 0xFF800000#32) reducesTo_S8192x4096_S8192_d1 h_S_

/-- The exponentials of an array's entries, each less its row's maximum (itself bounded below by −∞). -/
def shiftedExp (l : FVec Ideal S8192x4096 .f32) (mx : FVec Ideal S8192 .f32) : FVec Ideal S8192x4096 .f32 :=
  Host.exp (subf l (broadcastInDim S8192x4096 ![0, 1] bcast_S8192x1_S8192x4096_0_1
    (broadcastInDim S8192x1 ![0] bcast_S8192_S8192x1_0
      (maximumf (broadcastInDim S8192 ![] bcast_S_S8192 (constant S_ .f32 0xFF800000#32)) mx))))

/-- The sum of each row. -/
def rowSums (e : FVec Ideal S8192x4096 .f32) : FVec Ideal S8192 .f32 :=
  Host.reduceAdd e (constant S_ .f32 0x00000000#32) reducesTo_S8192x4096_S8192_d1 h_S_

/-- Each entry divided by its row's number, transposed. -/
def weightsT (e : FVec Ideal S8192x4096 .f32) (z : FVec Ideal S8192 .f32) : FVec Ideal S4096x8192 .f32 :=
  transpose S4096x8192 [1, 0] (Host.divf e (broadcastInDim S8192x4096 ![0, 1] bcast_S8192x1_S8192x4096_0_1
    (broadcastInDim S8192x1 ![0] bcast_S8192_S8192x1_0 z))) transposes_S8192x4096_S4096x8192_1_0

/-- A logit: the matrix entry divided by the quotient of the two constants. -/
theorem logits_apply (w : FVec Ideal S8192x4096 .f32) (o : Fin 8192) (k : Fin 4096) :
    logits w (ix2 o k) = Ideal.div (w (ix2 o k)) (Ideal.div (Ideal.ofBits .f32 0x3F800000#32) (Ideal.ofBits .f32 0x447A0000#32)) := rfl

/-- A shifted exponential at (o, k) reads the entry there and row `o`'s maximum. -/
theorem shiftedExp_apply (l : FVec Ideal S8192x4096 .f32) (mx : FVec Ideal S8192 .f32) (o : Fin 8192) (k : Fin 4096) :
    shiftedExp l mx (ix2 o k) = Ideal.exp (l (ix2 o k) - max (Ideal.ofBits .f32 0xFF800000#32) (mx (ix1 o))) := by
  pointwise [shiftedExp]

/-- The transposed weights at (k, o): the exponential at (o, k) over row `o`'s number. -/
theorem weightsT_apply (e : FVec Ideal S8192x4096 .f32) (z : FVec Ideal S8192 .f32) (o : Fin 8192) (k : Fin 4096) :
    weightsT e z (ix2 k o) = Ideal.div (e (ix2 o k)) (z (ix1 o)) := by
  pointwise [weightsT]

/-- Row `o`'s maximum is the fold of `max` over the row's 4096 entries. -/
theorem rowMaxima_apply (l : FVec Ideal S8192x4096 .f32) (o : Fin 8192) :
    rowMaxima l (ix1 o) = Finset.univ.fold max (Ideal.ofBits .f32 0xFF800000#32) (fun k : Fin 4096 => l (ix2 o k)) := by
  pointwise [rowMaxima]

/-- Row `o`'s sum is the sum of the row's 4096 entries. -/
theorem rowSums_apply (e : FVec Ideal S8192x4096 .f32) (o : Fin 8192) :
    rowSums e (ix1 o) = ∑ k : Fin 4096, e (ix2 o k) := by
  pointwise [rowSums]

/-- The product with the transposed weights, at (b, o): the sum over the 4096 inputs. -/
theorem product_apply (x : FVec Ideal S8x4096 .f32) (p : FVec Ideal S4096x8192 .f32) (b : Fin 8) (o : Fin 8192) :
    (Host.dotGeneral dot_S8x4096_S4096x8192_S8x8192_1_0_0_1_n_n none x p : FVec Ideal S8x8192 .f32) (ix2 b o)
      = ∑ k : Fin 4096, x (ix2 b k) * p (ix2 k o) := by
  pointwise []

/-- The reference's result over its two argument arrays, stage by stage. -/
def refTerm (x : FVec Ideal S8x4096 .f32) (w : FVec Ideal S8192x4096 .f32) : FVec Ideal S8x8192 .f32 :=
  Host.dotGeneral dot_S8x4096_S4096x8192_S8x8192_1_0_0_1_n_n none x
    (weightsT (shiftedExp (logits w) (rowMaxima (logits w))) (rowSums (shiftedExp (logits w) (rowMaxima (logits w)))))

open Cert.SoftmaxRow in
/-- The shifted exponential of the logits at (o, k) is the row's unnormalised weight `exp (1000 (w k − max w))`. -/
theorem shiftedExp_logits (w : FVec Ideal S8192x4096 .f32) (o : Fin 8192) (k : Fin 4096) :
    shiftedExp (logits w) (rowMaxima (logits w)) (ix2 o k) = weight (fun k : Fin 4096 => w (ix2 o k)) k := by
  rw [shiftedExp_apply, rowMaxima_apply]
  simp only [logits_apply, ofBits_one, ofBits_thousand, ofBits_negInf]
  exact exp_logit (fun k : Fin 4096 => w (ix2 o k)) k

open Cert.SoftmaxRow in
/-- WHAT THE REFERENCE COMPUTES at (b, o): the sum of `x b k` times the softmax weight of entry `k` in row `o`. -/
theorem refTerm_apply (x : FVec Ideal S8x4096 .f32) (w : FVec Ideal S8192x4096 .f32) (b : Fin 8) (o : Fin 8192) :
    refTerm x w (ix2 b o) = ∑ k : Fin 4096, x (ix2 b k)
      * Ideal.div (weight (fun k : Fin 4096 => w (ix2 o k)) k) (∑ k : Fin 4096, weight (fun k : Fin 4096 => w (ix2 o k)) k) := by
  unfold refTerm
  rw [product_apply]
  simp only [weightsT_apply, rowSums_apply, shiftedExp_logits]

variable (m : (ℓ : Loc nD τ sig) → Buf (Elt Ideal) ℓ) (g : Dev nD → PrngReg)

/-- The reference's run: its result array ends at `refTerm` of the arguments, which are unchanged. -/
theorem run : θ_run defs (onTc (τ := τ) (main (F := Ideal))) ⟨m, fun _ => 0, g⟩ fun r => ∀ c : Dev nD,
      r.2.mem ((c.tc : Thread nD τ).loc main_v15)
        = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      unfold refTerm weightsT rowSums shiftedExp rowMaxima logits tau; rfl), (h c).2⟩) (Value.run (F := Ideal) m g)

end Cert.ReferenceIdeal.SoftmaxValue
end
-- ==== Proof.Value.lean ====
/-
  What the kernel computes. Grid point `t` stages the whole of `x` and rows 512 t … 512 t + 511 of `W`, and writes columns
  512 t … 512 t + 511 of the result: at (b, o) of its block, the sum of `x b k` times row `o`'s unnormalised weights over
  the sum of these weights. Under a finite maximum of every row that is the reference's value at the block's place, and the
  sixteen blocks tile the result array, which therefore ends at the reference's function of the arguments.
-/
module

public import proofs.«01_k».proof.Proof.SoftmaxRow
public import proofs.«01_k».proof.Proof.Reference
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.SoftmaxValue

open Cert.KernelIdeal Cert.KernelIdeal.Gen Cert.SoftmaxRow

/-- ONE BLOCK: what the body stores at (b, o), from the staged rows of `W` and the whole of `x`. -/
theorem pay_apply (w : Vec Ideal S512x4096 .f32) (x : Vec Ideal S8x4096 .f32) (b : Fin 8) (o : Fin 512) :
    k0_pay1 (F := Ideal) w x (ix2 b o)
      = Ideal.div (∑ k : Fin 4096, x (ix2 b k) * weight (fun k : Fin 4096 => w (ix2 o k)) k)
          (∑ k : Fin 4096, weight (fun k : Fin 4096 => w (ix2 o k)) k) := by
  pointwise [k0_pay1]
  simp only [ofBits_negInf, ofBits_thousand]
  rfl

variable (m : (ℓ : Loc nD τ sig) → Buf (Elt Ideal) ℓ)

/-- The windows' blocks at point `t`: the whole of `x`, row block `t` of `W`, column block `t` of the result. -/
theorem idx : ∀ t : Fin cfg0.N, win0_0.index t = ![0, 0] ∧ win0_1.index t = ![t.val, 0] ∧ win0_2.index t = ![0, t.val]
    ∧ t.val < 16 :=
  (by decide +kernel : ∀ t : Fin grid0.N, _)

/-- Row `o` of the staged block of `W` at point `t` is row `512 t + o` of the array. -/
theorem row_read (c : Dev nD) (t : Fin cfg0.N) (o : Fin 512) (h : t.val * 512 + o.val < 8192) (k : Fin 4096) :
    (iblk m c 1 t : Vec Ideal S512x4096 .f32) (ix2 o k)
      = (m ((c : Thread nD τ).loc main_arg1) : FVec Ideal S8192x4096 .f32) (ix2 (⟨t.val * 512 + o.val, h⟩ : Fin 8192) k) := by
  blk_ext [iblk, V, idx t]

/-- The staged `x` is the array `x`. -/
theorem x_read (c : Dev nD) (t : Fin cfg0.N) (b : Fin 8) (k : Fin 4096) :
    (iblk m c 0 t : Vec Ideal S8x4096 .f32) (ix2 b k)
      = (m ((c : Thread nD τ).loc main_arg0) : FVec Ideal S8x4096 .f32) (ix2 b k) := by
  blk_ext [iblk, V, idx t]

/-- Element (b, o) of the result's block at point `t` sits at (b, 512 t + o) of the array. -/
theorem out_place (t : Fin cfg0.N) (b : Fin 8) (o : Fin 512) (h : t.val * 512 + o.val < 8192) :
    (((cfg0.win 2).blk t).view.emb (ix2 b o) : S8x8192.Idx) = ix2 b (⟨t.val * 512 + o.val, h⟩ : Fin 8192) := by
  blk_ext [idx t]

/-- What point `t` stores at a place of its block is the reference's value at the array's place, where every row of `W`
    has a real maximum. -/
theorem point (c : Dev nD)
    (hfin : ∀ o : Fin 8192, ∃ M : ℝ,
      (rowMax fun k : Fin 4096 => (m ((c : Thread nD τ).loc main_arg1) : FVec Ideal S8192x4096 .f32) (ix2 o k)) = (M : EReal))
    (t : Fin cfg0.N) (b : Fin 8) (o : Fin 512) :
    k0_pay1 (F := Ideal) (iblk m c 1 t) (iblk m c 0 t) (ix2 b o)
      = Cert.ReferenceIdeal.SoftmaxValue.refTerm (m ((c : Thread nD τ).loc main_arg0)) (m ((c : Thread nD τ).loc main_arg1))
          (((cfg0.win 2).blk t).view.emb (ix2 b o)) := by
  have h : t.val * 512 + o.val < 8192 := by have := (idx t).2.2.2; have := o.isLt; omega
  obtain ⟨M, hM⟩ := hfin ⟨t.val * 512 + o.val, h⟩
  rw [out_place t b o h]
  refine (pay_apply _ _ b o).trans (Eq.trans ?_
    (Cert.ReferenceIdeal.SoftmaxValue.refTerm_apply _ _ b ⟨t.val * 512 + o.val, h⟩).symm)
  rw [← div_sum _ _ hM, funext fun k => row_read m c t o h k]
  simp only [x_read]

/-- THE RESULT ARRAY after the run is the reference's function of the arguments, where every row of `W` has a real
    maximum. -/
theorem final (c : Dev nD)
    (hfin : ∀ o : Fin 8192, ∃ M : ℝ,
      (rowMax fun k : Fin 4096 => (m ((c : Thread nD τ).loc main_arg1) : FVec Ideal S8192x4096 .f32) (ix2 o k)) = (M : EReal)) :
    (dats m 0 c).arrAt 2 cfg0.N
      = Cert.ReferenceIdeal.SoftmaxValue.refTerm (m ((c : Thread nD τ).loc main_arg0)) (m ((c : Thread nD τ).loc main_arg1)) := by
  refine (dats m 0 c).arrAt_eq_of_covers 2 _ (by decide +kernel) fun t _ y => ?_
  blk_simp
  rw [after0_2]
  frame_out
  have hy : y = ix2 (y 0) (y 1) := by blk_ext []
  rw [hy]
  exact point m c hfin t (y 0) (y 1)

end Cert.KernelIdeal.SoftmaxValue
end
-- ==== Proof.RowMax.lean ====
/-
  The precondition, read at a row: where `finite_row_max` of the arguments is all ones, the maximum of every row of `W` is
  a real number. (The converse holds too; the value claim does not need it and it is not proved here.)
-/
module

public import proofs.«01_k».proof.Proof.SoftmaxRow
public import proofs.«01_k».proof.Proof.Gen.Pre_finite_row_max
public import Idealize.ShloMosaic.Lib.Pipeline.ValueKit

@[expose] public section

set_option maxRecDepth 16384

noncomputable section

open Idealize.ShloMosaic Idealize.SL.Sem

namespace Cert.Pre_finite_row_max

open Cert.Pre_finite_row_max.Gen Cert.SoftmaxRow

/-- The greatest entry of each row of `W`, from −∞. -/
def rowMaxima (w : FVec Ideal S8192x4096 .f32) : FVec Ideal S8192 .f32 :=
  Host.reduce FloatOps.maximumf w (constant S_ .f32 0xFF800000#32) Gen.reducesTo_S8192x4096_S8192_d1 Gen.h_S_

/-- Where a row's number has an absolute value below +∞. -/
def below (mx : FVec Ideal S8192 .f32) : IVec S8192 1 :=
  cmpf .olt (Host.absf mx) (broadcastInDim S8192 ![] Gen.bcast_S_S8192 (constant S_ .f32 0x7F800000#32))

/-- Row `o`'s maximum is the fold of `max` over the row's entries. -/
theorem rowMaxima_apply (w : FVec Ideal S8192x4096 .f32) (o : Fin 8192) :
    rowMaxima w (ix1 o) = rowMax fun k : Fin 4096 => w (ix2 o k) := by
  have e : rowMaxima w (ix1 o) = Finset.univ.fold max (Ideal.ofBits .f32 0xFF800000#32) (fun k : Fin 4096 => w (ix2 o k)) := by
    pointwise [rowMaxima]
  rw [e, ofBits_negInf]

/-- The comparison at row `o`. -/
theorem below_apply (mx : FVec Ideal S8192 .f32) (o : Fin 8192) :
    below mx (ix1 o) = Ideal.cmp .olt (max (mx (ix1 o)) (-(mx (ix1 o)))) (Ideal.ofBits .f32 0x7F800000#32) := rfl

/-- The predicate at row `o`: the comparison of the maximum's absolute value with +∞. -/
theorem fn_apply (x : FVec Ideal S8x4096 .f32) (w : FVec Ideal S8192x4096 .f32) (o : Fin 8192) :
    fn (F := Ideal) x w (ix1 o)
      = Ideal.cmp .olt (max (rowMax fun k : Fin 4096 => w (ix2 o k)) (-(rowMax fun k : Fin 4096 => w (ix2 o k)))) ⊤ := by
  have e : fn (F := Ideal) x w = below (rowMaxima w) := by unfold fn below rowMaxima; rfl
  rw [e, below_apply, rowMaxima_apply, ofBits_posInf]

/-- Where the precondition holds, every row of `W` has a real maximum. -/
theorem rowMax_real (x : FVec Ideal S8x4096 .f32) (w : FVec Ideal S8192x4096 .f32) (h : fn (F := Ideal) x w = fun _ => 1#1)
    (o : Fin 8192) : ∃ M : ℝ, (rowMax fun k : Fin 4096 => w (ix2 o k)) = (M : EReal) := by
  have e := (fn_apply x w o).symm.trans (congrFun h (ix1 o))
  refine real_of_abs_lt_top (by_contra fun hn => ?_)
  simp [Ideal.cmp, hn] at e

end Cert.Pre_finite_row_max

end
-- ==== Proof.lean ====
/-
  The certificate. The frames of the kernel and of its idealised form are the generated ones; the reference's is its generated run, which names no
  semaphore. The idealised kernel is the kernel's own text, so nothing is to be preserved. The value claim joins
  `KernelIdeal.SoftmaxValue.final` (the result array is the reference's function of the arguments, where every row of `W`
  has a real maximum), `Pre_finite_row_max.rowMax_real` (the precondition says that it has) and
  `ReferenceIdeal.SoftmaxValue.run` (the reference ends at that function).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Value
public import proofs.«01_k».proof.Proof.RowMax
public import proofs.«01_k».proof.Proof.Reference
public import proofs.«01_k».proof.Proof.Gen.ReferenceIdeal.Run
public import proofs.«01_k».proof.Proof.Gen.Pre_finite_row_max
public import Idealize.ShloMosaic.Adequacy
public import Idealize.ShloMosaic.Init

@[expose] public section

noncomputable section

namespace Cert.Proof

open Idealize.ShloMosaic Idealize.SL.Sem

/-- The reference runs from every memory, keeps its arguments and leaves every semaphore at zero. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.SoftmaxValue.run m g)

/-- Over the extended reals, where every row of `W` has a finite maximum, the kernel and the reference end with equal
    results: both at the product of `x` with the transposed softmax of `1000 W`. -/
theorem value : Cert.algebraic_KernelIdeal_ReferenceIdeal_pre_finite_row_max := by
  intro m g m' g' hpre hagree
  refine ⟨fun c => Cert.ReferenceIdeal.SoftmaxValue.refTerm
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.SoftmaxValue.final m c
        (Cert.Pre_finite_row_max.rowMax_real _ _ (hpre c))), (h c).2⟩)
      (Cert.KernelIdeal.Value.run_blocks (F := Ideal) m g)
  · exact (θ_run Cert.ReferenceIdeal.defs _ _).mono
      (fun r h c => ⟨(h c).1.trans (congrArg₂ Cert.ReferenceIdeal.SoftmaxValue.refTerm (hagree c).1 (hagree c).2), (h c).2⟩)
      (Cert.ReferenceIdeal.SoftmaxValue.run m' g')

/-- Everything that the certificate claims: the frames (those under the precondition are the same runs), preservation,
    and the value. -/
theorem claim : Cert.Claim :=
  ⟨Cert.Kernel.Gen.facts, Cert.KernelIdeal.Gen.facts, Cert.ReferenceIdeal.Gen.facts, Cert.Pre_finite_row_max.Gen.facts,
    fun m g _ => Cert.Kernel.Gen.frame m g, fun m g _ => Cert.KernelIdeal.Gen.frame m g,
    fun m g _ => Cert.KernelIdeal.Gen.frame m g, reference_frame, fun m g _ => reference_frame m g trivial,
    trivial, value⟩

end Cert.Proof

end
